-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩
abbrev S512x4096 : Shape := ⟨2, ![512, 4096]⟩
abbrev S2x512x64 : Shape := ⟨3, ![2, 512, 64]⟩
abbrev S2 : Shape := ⟨1, ![2]⟩
abbrev S1 : Shape := ⟨1, ![1]⟩
abbrev S_ : Shape := ⟨0, ![]⟩
abbrev S512x64 : Shape := ⟨2, ![512, 64]⟩
abbrev S1x512x64 : Shape := ⟨3, ![1, 512, 64]⟩

abbrev nBuf : Space → Nat
  | .hbm => 6
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S4096x64, .f32⟩
  | .local _ .vmem, ⟨0, _⟩ => ⟨S4096x64, .f32⟩
  | .local _ .vmem, ⟨1, _⟩ => ⟨S512x4096, .f32⟩
  | .local _ .vmem, ⟨2, _⟩ => ⟨S512x4096, .f32⟩
  | .local _ .vmem, ⟨3, _⟩ => ⟨S64x64, .f32⟩
  | .local _ .vmem, ⟨4, _⟩ => ⟨S1x64, .f32⟩
  | .local _ .vmem, ⟨5, _⟩ => ⟨S4096x64, .f32⟩
  | .local _ .vmem, ⟨6, _⟩ => ⟨S2x512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32_1 : BitVec 32 := 2#32
  let v4 : BitVec 1 := Scalar.cmpi .sge arg0 c2_i32_1
  let v5 : BitVec 32 := Scalar.extui v4
  let c0_i32_2 : BitVec 32 := 0#32
  let v6 : BitVec 1 := Scalar.cmpi .ne v5 c0_i32_2
  v6

def k0_off1 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off2 (i : grid0.Coords) : Fin 2 → Nat :=
  let arg0 : BitVec 32 := BitVec.ofNat 32 (i 0).val
  let c2_i32_14 : BitVec 32 := 2#32
  let v27 : BitVec 32 := Scalar.subi arg0 c2_i32_14
  let c512_i32_15 : BitVec 32 := 512#32
  let v28 : BitVec 32 := Scalar.muli v27 c512_i32_15
  let c0_i32_16 : BitVec 32 := 0#32
  ![v28.toNat, 0]
def k0_off3 (i : grid0.Coords) : Fin 3 → Nat :=
  let arg0 : BitVec 32 := BitVec.ofNat 32 (i 0).val
  let c2_i32 : BitVec 32 := 2#32
  let v3 : BitVec 32 := Scalar.remsi arg0 c2_i32
  let c0_i32_17 : BitVec 32 := 0#32
  let c0_i32_18 : BitVec 32 := 0#32
  ![v3.toNat, 0, 0]
def k0_off4 (i : grid0.Coords) : Fin 3 → Nat :=
  let arg0 : BitVec 32 := BitVec.ofNat 32 (i 0).val
  let c2_i32 : BitVec 32 := 2#32
  let v3 : BitVec 32 := Scalar.remsi arg0 c2_i32
  let v14 : Index := Scalar.indexCast v3
  let c0_8 : Index := 0#32
  let c0_9 : Index := 0#32
  ![v14.toNat, 0, 0]
def k0_off5 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off6 (i : grid0.Coords) : Fin 2 → Nat :=
  let arg0 : BitVec 32 := BitVec.ofNat 32 (i 0).val
  let c512_i32 : BitVec 32 := 512#32
  let v18 : BitVec 32 := Scalar.muli arg0 c512_i32
  let c0_i32_10 : BitVec 32 := 0#32
  ![v18.toNat, 0]
def k0_off7 (i : grid0.Coords) : Fin 3 → Nat :=
  let arg0 : BitVec 32 := BitVec.ofNat 32 (i 0).val
  let c2_i32 : BitVec 32 := 2#32
  let v3 : BitVec 32 := Scalar.remsi arg0 c2_i32
  let c0_i32_11 : BitVec 32 := 0#32
  let c0_i32_12 : BitVec 32 := 0#32
  ![v3.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S64, .f32⟩
  | .hbm, ⟨4, _⟩ => ⟨S4096x64, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdeal.Families.lean ====
/- The output ring of the graph-convolution kernel: the two staging tiles, the eight row bands of the result, the two
   semaphore cells, and what each of them is held as while the grid runs. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Routed
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp
public import Idealize.ShloMosaic.Lib.ViewIndex
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-! ## When each branch of the body is taken -/

/-- The first branch: the grid coordinate is zero. -/
abbrev atFirst (i : grid0.Coords) : Prop :=
  Scalar.cmpi .ne (Scalar.extui (Scalar.cmpi .eq (BitVec.ofNat 32 (i 0).val) 0#32)) 0#32 = 1#1
/-- The second branch: the grid coordinate is at least two. -/
abbrev atWait (i : grid0.Coords) : Prop := k0_cond2 i = 1#1
/-- The last branch: the grid coordinate is seven. -/
abbrev atLast (i : grid0.Coords) : Prop :=
  Scalar.cmpi .ne (Scalar.extui (Scalar.cmpi .eq (BitVec.ofNat 32 (i 0).val) 7#32)) 0#32 = 1#1

/-- The product of the features and the weights is computed at point zero only. -/
theorem atFirst_iff : ∀ t : Fin cfg0.N, atFirst (grid0.coords t) ↔ t.val = 0 :=
  (by decide +kernel : ∀ t : Fin grid0.N, atFirst (grid0.coords t) ↔ t.val = 0)
/-- A copy is waited for from point two on. -/
theorem atWait_iff : ∀ t : Fin cfg0.N, atWait (grid0.coords t) ↔ 2 ≤ t.val :=
  (by decide +kernel : ∀ t : Fin grid0.N, atWait (grid0.coords t) ↔ 2 ≤ t.val)
/-- The two copies still running are drained at point seven only. -/
theorem atLast_iff : ∀ t : Fin cfg0.N, atLast (grid0.coords t) ↔ t.val = 7 :=
  (by decide +kernel : ∀ t : Fin grid0.N, atLast (grid0.coords t) ↔ t.val = 7)

instance gridPos : NeZero grid0.N := ⟨by rw [N_0]; decide⟩

/-! ## Tiles, bands and cells -/

/-- The scratch holding the product of the features and the weights. -/
abbrev suppM : Memref sig .tc .vmem S4096x64 .f32 := Memref.whole cc0_scratch0
/-- The scratch of the two staging tiles. -/
abbrev stageM : Memref sig .tc .vmem S2x512x64 .f32 := Memref.whole cc0_scratch1
/-- The result. -/
abbrev resM : Memref sig .tc .hbm S4096x64 .f32 := Memref.whole main_v1

/-- Where tile `g` starts in the staging scratch. -/
abbrev tileOff (g : Fin 2) : Fin 3 → ℕ := ![g.val, 0, 0]
/-- Where band `u` starts in the result. -/
abbrev bandOff (u : Fin 8) : Fin 2 → ℕ := ![512 * u.val, 0]

theorem tile_inb (g : Fin 2) : ∀ a, tileOff g a + S1x512x64.size a ≤ S2x512x64.size a := by
  have := g.isLt; intro a; fin_cases a <;> simp [tileOff] <;> omega
theorem band_inb (u : Fin 8) : ∀ a, bandOff u a + S512x64.size a ≤ S4096x64.size a := by
  have := u.isLt; intro a; fin_cases a <;> simp [bandOff] <;> omega
theorem cell_inb (g : Fin 2) : ∀ a, (![g.val] : Fin 1 → ℕ) a + S1.size a ≤ S2.size a := by
  have := g.isLt; intro a; fin_cases a; simp; omega

/-- Tile `g`, as a copy out of it names its source. -/
def tile (g : Fin 2) : Memref sig .tc .vmem S512x64 .f32 :=
  (stageM.slice (Rect.unit (s := S2x512x64) ![g.val, 0, 0] S1x512x64.size (tile_inb g)) (fun _ => rfl)).squeeze S512x64 squeezes_S1x512x64_S512x64
/-- Band `u` of the result, as the copy of step `u` names its destination. -/
def band (u : Fin 8) : Memref sig .tc .hbm S512x64 .f32 :=
  resM.slice (Rect.unit (s := S4096x64) ![512 * u.val, 0] S512x64.size (band_inb u)) (fun _ => rfl)
/-- The semaphore cell the copies out of tile `g` are counted on. -/
def cell (g : Fin 2) : DmaSems sig S_ :=
  (cc0_scratch2.slice (Rect.unit (s := S2) ![g.val] S1.size (cell_inb g))).squeeze S_ squeezes_S1_S_
/-- That cell's number. -/
abbrev cellNo (g : Fin 2) : SemLoc sig := SemLoc.dma (cell g).sem

theorem cellNo_0 : cellNo 0 = SemLoc.dma 5 := by decide
theorem cellNo_1 : cellNo 1 = SemLoc.dma 6 := by decide

/-! ## The elements of a tile and of a band -/

/-- The staging scratch's elements in tile `g`. -/
abbrev tileSet (g : Fin 2) : Finset S2x512x64.Idx := (Rect.unit (s := S2x512x64) (tileOff g) S1x512x64.size (tile_inb g)).set
/-- The result's elements in band `u`. -/
abbrev bandSet (u : Fin 8) : Finset S4096x64.Idx := (Rect.unit (s := S4096x64) (bandOff u) S512x64.size (band_inb u)).set

theorem tile_set (g : Fin 2) : (tile g).view.set = tileSet g := by
  simp only [tile, Memref.view_squeeze, View.set_reshape]; exact View.set_slice_whole _ _
theorem band_set (u : Fin 8) : (band u).view.set = bandSet u := View.set_slice_whole _ _

/-- Different tiles share no element, -/
theorem tiles_disjoint (g g' : Fin 2) (h : g ≠ g') : Disjoint (tileSet g) (tileSet g') :=
  Ring.lead_disjoint (s := S2x512x64) 0 1 tileOff S1x512x64.size tile_inb (fun g => by simp [tileOff]) (by rfl) g g' h
/-- and the two tiles are the whole scratch. -/
theorem tiles_cover : Finset.univ.biUnion tileSet = Finset.univ :=
  Ring.lead_cover (s := S2x512x64) 0 1 tileOff S1x512x64.size tile_inb (fun g => by simp [tileOff])
    (fun g a ha => by fin_cases a <;> simp_all [tileOff]) (by rfl) (fun a ha => by fin_cases a <;> simp_all) (by rfl)
/-- Different bands share no element, -/
theorem bands_disjoint (u u' : Fin 8) (h : u ≠ u') : Disjoint (bandSet u) (bandSet u') :=
  Ring.lead_disjoint (s := S4096x64) 0 512 bandOff S512x64.size band_inb (fun u => by simp [bandOff]) (by rfl) u u' h
/-- and the eight bands are the whole result. -/
theorem bands_cover : Finset.univ.biUnion bandSet = Finset.univ :=
  Ring.lead_cover (s := S4096x64) 0 512 bandOff S512x64.size band_inb (fun u => by simp [bandOff])
    (fun u a ha => by fin_cases a <;> simp_all [bandOff]) (by rfl) (fun a ha => by fin_cases a <;> simp_all) (by rfl)

/-! ## What is held of them -/

section Held
variable (c : Dev nD)

/-- The staging scratch's contents. -/
abbrev Stage : Type := Buf (Elt F) ((c : Thread nD τ).loc cc0_scratch1)
/-- The result's contents. -/
abbrev Res : Type := Buf (Elt F) ((c : Thread nD τ).loc main_v1)

/-- Tile `g` held, its buffer's contents `e` there. -/
abbrev tileAt (g : Fin 2) (e : Stage (F := F) c) : sProp 𝕄 :=
  (tile g).view.loc (c : Thread nD τ) ↦[(tile g).view.set]{fullShare} e
/-- Band `u` of the result held, the result's contents `f` there. -/
abbrev bandAt (u : Fin 8) (f : Res (F := F) c) : sProp 𝕄 :=
  (band u).view.loc (c : Thread nD τ) ↦[(band u).view.set]{fullShare} f
/-- Cell `g` at zero. -/
abbrev cellAt (g : Fin 2) : sProp 𝕄 := semVal ((c : Thread nD τ), cellNo g) 0

/-- The result's contents `f` agree with `G` on band `u`. -/
def Lands (G : Res (F := F) c) (u : Fin 8) (f : Res (F := F) c) : Prop := ∀ a : S512x64.Idx, f ((band u).view.emb a) = G ((band u).view.emb a)

/-- A group with no copy running: its cell at zero, its tile held at anything. -/
abbrev freeAt (g : Fin 2) : sProp 𝕄 := iprop(cellAt c g ∗ ∃ e : Stage (F := F) c, tileAt c g e)
/-- A group whose tile is being copied to band `u`: at its end the band holds what `G` has there, and the tile is back. -/
abbrev copyAt (G : Res (F := F) c) (g : Fin 2) (u : Fin 8) : sProp 𝕄 :=
  iprop(∃ f e, ⌜Lands c G u f⌝ ∗ Transfers.Flight countersEmb (c : Thread nD τ) (cellNo g) default ((band u).view.amount (cellNo g))
    iprop(bandAt c u f ∗ tileAt c g e))
/-- A band not written yet, -/
abbrev blankAt (u : Fin 8) : sProp 𝕄 := iprop(∃ f : Res (F := F) c, bandAt c u f)
/-- and a band that holds what `G` has there. -/
abbrev doneAt (G : Res (F := F) c) (u : Fin 8) : sProp 𝕄 := bandAt c u G

/-- The ring before step `k`, writing `G`. -/
def ringAt (G : Res (F := F) c) (k : ℕ) : sProp 𝕄 := Ring.AtBΦ 2 (freeAt c) (copyAt c G) (blankAt c) (doneAt c G) k

omit [FloatOps F] in
/-- A band whose contents agree with `G` there is a band that holds what `G` has there. -/
theorem bandAt_lands (G : Res (F := F) c) (u : Fin 8) (f : Res (F := F) c) (h : Lands c G u f) : bandAt c u f = bandAt c u G :=
  pointsTo_congr fun i hi => by
    obtain ⟨a, -, rfl⟩ := Finset.mem_map.mp hi
    exact h a

omit [FloatOps F] in
/-- The step's store and copy together: a block stored in tile `g` and copied from there to band `u` leaves the band
    agreeing with any `G` that has that block there. -/
theorem lands_store (G : Res (F := F) c) (g : Fin 2) (u : Fin 8) (fp : Res (F := F) c) (fe : Stage (F := F) c) (v : Vec F S1x512x64 .f32)
    (o : Fin 3 → ℕ) (ho : o = ![g.val, 0, 0]) (hi : ∀ a, o a + S1x512x64.size a ≤ S2x512x64.size a)
    (hG : ∀ a : S512x64.Idx, G ((band u).view.emb a) = v (Shape.reshapeEquiv squeezes_S1x512x64_S512x64.numel_eq a)) :
    Lands c G u ((band u).view.writes (Elt F) fp [⟨Rect.whole S512x64, ReadAs.same.apply
      (View.read (Elt F) (tile g).view (View.write (Elt F) (stageM.access (Rect.unit o S1x512x64.size hi)) fe v Finset.univ))⟩]) := by
  intro a
  refine View.eq_of_read_eq (Val := Elt F) (v := (band u).view) ?_
  refine (congrFun (View.read_writes_whole (Val := Elt F) (band u).view fp _) a).trans ?_
  refine Eq.trans ?_ (hG a).symm
  exact congrFun (Memref.read_slice_write (Val := Elt F) stageM hi ho (tile_inb g) fe v) (Shape.reshapeEquiv squeezes_S1x512x64_S512x64.numel_eq a)

omit [FloatOps F] in
theorem cellAt_0 : cellAt (F := F) c 0 = semVal ((c : Thread nD τ), SemLoc.dma 5) 0 := congrArg (fun x => (semVal ((c : Thread nD τ), x) 0 : sProp 𝕄)) cellNo_0
omit [FloatOps F] in
theorem cellAt_1 : cellAt (F := F) c 1 = semVal ((c : Thread nD τ), SemLoc.dma 6) 0 := congrArg (fun x => (semVal ((c : Thread nD τ), x) 0 : sProp 𝕄)) cellNo_1
omit [FloatOps F] in
theorem tileAt_eq (g : Fin 2) (e) : tileAt (F := F) c g e = (((c : Thread nD τ).loc cc0_scratch1) ↦[tileSet g]{fullShare} e : sProp 𝕄) := by
  unfold tileAt; rw [tile_set]; rfl
omit [FloatOps F] in
theorem bandAt_eq (u : Fin 8) (f) : bandAt (F := F) c u f = (((c : Thread nD τ).loc main_v1) ↦[bandSet u]{fullShare} f : sProp 𝕄) := by
  unfold bandAt; rw [band_set]; rfl

/-- INTO THE RING: the staging scratch whole at anything, the two cells at zero and the result whole at anything are the
    ring before its first step. -/
theorem ring_in (G : Res (F := F) c) (X : Res (F := F) c) :
    iprop((∃ f : Buf (Elt F) ((c : Thread nD τ).loc cc0_scratch1), ((c : Thread nD τ).loc cc0_scratch1) ↦{fullShare} f)
        ∗ (semVal ((c : Thread nD τ), SemLoc.dma 5) 0 ∗ semVal ((c : Thread nD τ), SemLoc.dma 6) 0)
        ∗ ((c : Thread nD τ).loc main_v1) ↦{fullShare} X)
      ⊢ (ringAt c G 0 : sProp 𝕄) := by
  unfold ringAt; rw [Ring.AtBΦ_lt _ _ _ _ _ 0 (by decide), Ring.AtB_zero]; unfold Ring.AtB₀
  rw [Ring.bigSep_fin2 (freeAt c), ← cellAt_0, ← cellAt_1]
  iintro ⟨HS, ⟨Hq0, Hq1⟩, HR⟩
  ihave HT := (Ring.pieces_split (U := Pipeline.UC sig nD τ) (ℓ := (c : Thread nD τ).loc cc0_scratch1) (q := fullShare) tileSet tiles_disjoint tiles_cover
    (fun g e => tileAt c g e) (fun g e => tileAt_eq c g e)) $$ HS
  ihave HP := (Ring.pieces_split (U := Pipeline.UC sig nD τ) (ℓ := (c : Thread nD τ).loc main_v1) (q := fullShare) bandSet bands_disjoint bands_cover
    (fun u f => bandAt c u f) (fun u f => bandAt_eq c u f)) $$ [HR]
  · iexists X; iexact HR
  ihave HT' := (Entails.of_eq (Ring.bigSep_fin2 (fun g => iprop(∃ e : Stage (F := F) c, tileAt c g e)))) $$ HT
  icases HT' with ⟨HT0, HT1⟩
  isplitl [HP]; · iexact HP
  isplitl [Hq0 HT0]
  · isplitl [Hq0]; · iexact Hq0
    iexact HT0
  isplitl [Hq1]; · iexact Hq1
  iexact HT1

/-- OUT OF THE RING: after the last step the staging scratch is whole again, the cells are at zero and the result is
    whole at `G`. -/
theorem ring_out (G : Res (F := F) c) :
    (ringAt c G 8 : sProp 𝕄)
      ⊢ iprop((∃ f : Buf (Elt F) ((c : Thread nD τ).loc cc0_scratch1), ((c : Thread nD τ).loc cc0_scratch1) ↦{fullShare} f)
        ∗ (semVal ((c : Thread nD τ), SemLoc.dma 5) 0 ∗ semVal ((c : Thread nD τ), SemLoc.dma 6) 0)
        ∗ ((c : Thread nD τ).loc main_v1) ↦{fullShare} G) := by
  unfold ringAt; rw [Ring.AtBΦ_ge _ _ _ _ _ 8 (by decide)]; unfold Ring.AtBEnd
  rw [Ring.bigSep_fin2 (freeAt c), ← cellAt_0, ← cellAt_1]
  rw [Ring.pointsTo_blocks (Ix := Unit) (Name := ℕ) (U := Pipeline.UC sig nD τ) (Lvl := ℕ) (q := fullShare) bandSet bands_disjoint bands_cover G]
  iintro ⟨HP, ⟨Hq0, HT0⟩, ⟨Hq1, HT1⟩⟩
  isplitl [HT0 HT1]
  · iapply (Ring.pieces_join (U := Pipeline.UC sig nD τ) (ℓ := (c : Thread nD τ).loc cc0_scratch1) (q := fullShare) tileSet tiles_disjoint tiles_cover
      (fun g e => tileAt c g e) (fun g e => tileAt_eq c g e) (fun _ => Classical.ofNonempty))
    iapply (Entails.of_eq (Ring.bigSep_fin2 (fun g => iprop(∃ e : Stage (F := F) c, tileAt c g e))).symm)
    isplitl [HT0]; · iexact HT0
    iexact HT1
  isplitl [Hq0 Hq1]
  · isplitl [Hq0]; · iexact Hq0
    iexact Hq1
  iapply (Entails.of_eq (BI.bigSep_congr fun u _ => bandAt_eq (F := F) c u G))
  iexact HP
end Held

/-! ## The body's operands are the ring's

At grid point `t` the body addresses its tile, band and cell by arithmetic on the grid coordinate; each of these
equations names the ring's tile, band or cell it reaches. -/

section Canon
omit [FloatOps F]

set_option synthInstance.maxSize 4096 in
theorem off5_eq : ∀ t : Fin grid0.N, k0_off5 (grid0.coords t) = ![(Ring.sl 2 t.val).val] := by decide +kernel
set_option synthInstance.maxSize 4096 in
theorem off1_eq : ∀ t : Fin grid0.N, k0_off1 (grid0.coords t) = ![(Ring.sl 2 t.val).val] := by decide +kernel
set_option synthInstance.maxSize 4096 in
theorem off7_eq : ∀ t : Fin grid0.N, k0_off7 (grid0.coords t) = tileOff (Ring.sl 2 t.val) := by decide +kernel
set_option synthInstance.maxSize 4096 in
theorem off3_eq : ∀ t : Fin grid0.N, k0_off3 (grid0.coords t) = tileOff (Ring.sl 2 t.val) := by decide +kernel
set_option synthInstance.maxSize 4096 in
theorem off6_eq : ∀ t : Fin grid0.N, k0_off6 (grid0.coords t) = bandOff (Ring.bk 8 t.val) := by decide +kernel
set_option synthInstance.maxSize 4096 in
theorem off4_eq : ∀ t : Fin grid0.N, k0_off4 (grid0.coords t) = ![(Ring.sl 2 t.val).val, 0, 0] := by decide +kernel
set_option synthInstance.maxSize 4096 in
theorem last_even : ∀ t : Fin grid0.N, atLast (grid0.coords t) → (Ring.sl 2 (t.val + 1) = 0 ∧ Ring.sl 2 t.val = 1) := by decide +kernel

/-- The box the body stores its block into is the step's tile. -/
instance (priority := high) closedOff_store (t : Fin grid0.N) : ClosedOff (k0_off4 (grid0.coords t)) :=
  ⟨![(Ring.sl 2 t.val).val, 0, 0], off4_eq t⟩

/-- A cell of the semaphore pair taken at offsets that are group `g`'s is cell `g`. -/
theorem cell_of_off (g : Fin 2) (o : Fin 1 → ℕ) (h : o = ![g.val]) (hi : ∀ a, o a + S1.size a ≤ S2.size a) :
    (cc0_scratch2.slice (Rect.unit (s := S2) o S1.size hi)).squeeze S_ squeezes_S1_S_ = cell g :=
  congrArg (fun A : DmaSems sig S1 => A.squeeze S_ squeezes_S1_S_) (SemArray.slice_unit_congr _ h _ _)
/-- A tile-sized box of the staging scratch at offsets that are group `g`'s is tile `g`. -/
theorem tile_of_off (g : Fin 2) (o : Fin 3 → ℕ) (h : o = tileOff g) (hi : ∀ a, o a + S1x512x64.size a ≤ S2x512x64.size a) :
    (stageM.slice (Rect.unit (s := S2x512x64) o S1x512x64.size hi) (fun _ => rfl)).squeeze S512x64 squeezes_S1x512x64_S512x64 = tile g :=
  congrArg (fun M : Memref sig .tc .vmem S1x512x64 .f32 => M.squeeze S512x64 squeezes_S1x512x64_S512x64)
    (Memref.slice_unit_congr _ h _ _ (fun _ => rfl) (fun _ => rfl))
/-- A band-sized box of the result at offsets that are band `u`'s is band `u`. -/
theorem band_of_off (u : Fin 8) (o : Fin 2 → ℕ) (h : o = bandOff u) (hi : ∀ a, o a + S512x64.size a ≤ S4096x64.size a) :
    resM.slice (Rect.unit (s := S4096x64) o S512x64.size hi) (fun _ => rfl) = band u :=
  Memref.slice_unit_congr _ h _ _ (fun _ => rfl) (fun _ => rfl)

@[sl_canon] theorem issueCell (t : Fin grid0.N) :
    (cc0_scratch2.slice (Rect.unit (s := S2) (k0_off5 (grid0.coords t)) S1.size (k0_off5_inb (grid0.coords t)))).squeeze S_ squeezes_S1_S_ = cell (Ring.sl 2 t.val) :=
  cell_of_off _ _ (off5_eq t) _
@[sl_canon] theorem issueCell' (t : Fin grid0.N) :
    (cc0_scratch2.slice (Rect.unit (s := S2) (k0_off5 (grid0.coords t)) ![1] (k0_off5_inb (grid0.coords t)))).squeeze S_ squeezes_S1_S_ = cell (Ring.sl 2 t.val) :=
  issueCell t
@[sl_canon] theorem issueTile (t : Fin grid0.N) :
    (stageM.slice (Rect.unit (s := S2x512x64) (k0_off7 (grid0.coords t)) S1x512x64.size (k0_off7_inb (grid0.coords t))) (fun _ => rfl)).squeeze S512x64 squeezes_S1x512x64_S512x64 = tile (Ring.sl 2 t.val) :=
  tile_of_off _ _ (off7_eq t) _
@[sl_canon] theorem issueTile' (t : Fin grid0.N) :
    (stageM.slice (Rect.unit (s := S2x512x64) (k0_off7 (grid0.coords t)) ![1, 512, 64] (k0_off7_inb (grid0.coords t))) (fun _ => rfl)).squeeze S512x64 squeezes_S1x512x64_S512x64 = tile (Ring.sl 2 t.val) :=
  issueTile t
@[sl_canon] theorem issueBand (t : Fin grid0.N) :
    resM.slice (Rect.unit (s := S4096x64) (k0_off6 (grid0.coords t)) S512x64.size (k0_off6_inb (grid0.coords t))) (fun _ => rfl) = band (Ring.bk 8 t.val) :=
  band_of_off _ _ (off6_eq t) _
@[sl_canon] theorem issueBand' (t : Fin grid0.N) :
    resM.slice (Rect.unit (s := S4096x64) (k0_off6 (grid0.coords t)) ![512, 64] (k0_off6_inb (grid0.coords t))) (fun _ => rfl) = band (Ring.bk 8 t.val) :=
  issueBand t
@[sl_canon] theorem waitCell (t : Fin grid0.N) (h : atWait (grid0.coords t)) :
    (cc0_scratch2.slice (Rect.unit (s := S2) (k0_off1 (grid0.coords t)) S1.size (k0_off1_inb (grid0.coords t) h))).squeeze S_ squeezes_S1_S_ = cell (Ring.sl 2 t.val) :=
  cell_of_off _ _ (off1_eq t) _
@[sl_canon] theorem waitCell' (t : Fin grid0.N) (h : atWait (grid0.coords t)) :
    (cc0_scratch2.slice (Rect.unit (s := S2) (k0_off1 (grid0.coords t)) ![1] (k0_off1_inb (grid0.coords t) h))).squeeze S_ squeezes_S1_S_ = cell (Ring.sl 2 t.val) :=
  waitCell t h
@[sl_canon] theorem waitTile (t : Fin grid0.N) (h : atWait (grid0.coords t)) :
    (stageM.slice (Rect.unit (s := S2x512x64) (k0_off3 (grid0.coords t)) S1x512x64.size (k0_off3_inb (grid0.coords t) h)) (fun _ => rfl)).squeeze S512x64 squeezes_S1x512x64_S512x64 = tile (Ring.sl 2 t.val) :=
  tile_of_off _ _ (off3_eq t) _
@[sl_canon] theorem waitTile' (t : Fin grid0.N) (h : atWait (grid0.coords t)) :
    (stageM.slice (Rect.unit (s := S2x512x64) (k0_off3 (grid0.coords t)) ![1, 512, 64] (k0_off3_inb (grid0.coords t) h)) (fun _ => rfl)).squeeze S512x64 squeezes_S1x512x64_S512x64 = tile (Ring.sl 2 t.val) :=
  waitTile t h
@[sl_canon] theorem drainCell0 (t : Fin grid0.N) (h : atLast (grid0.coords t)) :
    (cc0_scratch2.slice (Rect.unit (s := S2) ![0] S1.size inb_S2_S1_0)).squeeze S_ squeezes_S1_S_ = cell (Ring.sl 2 (t.val + 1)) :=
  cell_of_off _ _ (by rw [(last_even t h).1]; rfl) _
@[sl_canon] theorem drainCell0' (t : Fin grid0.N) (h : atLast (grid0.coords t)) :
    (cc0_scratch2.slice (Rect.unit (s := S2) ![0] ![1] inb_S2_S1_0)).squeeze S_ squeezes_S1_S_ = cell (Ring.sl 2 (t.val + 1)) :=
  drainCell0 t h
@[sl_canon] theorem drainTile0 (t : Fin grid0.N) (h : atLast (grid0.coords t)) :
    (stageM.slice (Rect.unit (s := S2x512x64) ![0, 0, 0] S1x512x64.size inb_S2x512x64_S1x512x64_0_0_0) (fun _ => rfl)).squeeze S512x64 squeezes_S1x512x64_S512x64 = tile (Ring.sl 2 (t.val + 1)) :=
  tile_of_off _ _ (by rw [(last_even t h).1]; rfl) _
@[sl_canon] theorem drainTile0' (t : Fin grid0.N) (h : atLast (grid0.coords t)) :
    (stageM.slice (Rect.unit (s := S2x512x64) ![0, 0, 0] ![1, 512, 64] inb_S2x512x64_S1x512x64_0_0_0) (fun _ => rfl)).squeeze S512x64 squeezes_S1x512x64_S512x64 = tile (Ring.sl 2 (t.val + 1)) :=
  drainTile0 t h
@[sl_canon] theorem drainCell1 (t : Fin grid0.N) (h : atLast (grid0.coords t)) :
    (cc0_scratch2.slice (Rect.unit (s := S2) ![1] S1.size inb_S2_S1_1)).squeeze S_ squeezes_S1_S_ = cell (Ring.sl 2 t.val) :=
  cell_of_off _ _ (by rw [(last_even t h).2]; rfl) _
@[sl_canon] theorem drainCell1' (t : Fin grid0.N) (h : atLast (grid0.coords t)) :
    (cc0_scratch2.slice (Rect.unit (s := S2) ![1] ![1] inb_S2_S1_1)).squeeze S_ squeezes_S1_S_ = cell (Ring.sl 2 t.val) :=
  drainCell1 t h
@[sl_canon] theorem drainTile1 (t : Fin grid0.N) (h : atLast (grid0.coords t)) :
    (stageM.slice (Rect.unit (s := S2x512x64) ![1, 0, 0] S1x512x64.size inb_S2x512x64_S1x512x64_1_0_0) (fun _ => rfl)).squeeze S512x64 squeezes_S1x512x64_S512x64 = tile (Ring.sl 2 t.val) :=
  tile_of_off _ _ (by rw [(last_even t h).2]; rfl) _
@[sl_canon] theorem drainTile1' (t : Fin grid0.N) (h : atLast (grid0.coords t)) :
    (stageM.slice (Rect.unit (s := S2x512x64) ![1, 0, 0] ![1, 512, 64] inb_S2x512x64_S1x512x64_1_0_0) (fun _ => rfl)).squeeze S512x64 squeezes_S1x512x64_S512x64 = tile (Ring.sl 2 t.val) :=
  drainTile1 t h
end Canon

end Cert.KernelIdeal.Hand

end
-- ==== Proof.KernelIdeal.Runs.lean ====
/- The kernel's body, run once in each of the four ways its branches can go: the first point (the product of the
   features and the weights is computed and stored), the second (nothing to wait for yet), the points between (the copy
   of two points ago is waited for first), and the last (both running copies are drained). -/
module

public import proofs.«01_k».proof.Proof.KernelIdeal.Families

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-- `G` has, on band `u`, the block the body computes from a band of the adjacency `x1`, the stored product `s` and the
    bias row `x3`. -/
def Computes (c : Dev nD) (G : Res (F := F) c) (u : Fin 8) (x1 : Vec F S512x4096 .f32) (s : Vec F S4096x64 .f32) (x3 : Vec F S1x64 .f32) : Prop :=
  ∀ a : S512x64.Idx, G ((band u).view.emb a) = k0_pay2 x1 s x3 (Shape.reshapeEquiv squeezes_S1x512x64_S512x64.numel_eq a)

set_option maxHeartbeats 1000000 in
/-- THE FIRST POINT: the product of the features and the weights is computed and stored, then the block is computed from
    it, put in the free tile, and its copy started. -/
theorem run_first (c : Dev nD) (t : Fin cfg0.N) (arg1 : Memref sig .tc .vmem S4096x64 .f32) (harg1 : arg1.IsWhole) (arg2 : Memref sig .tc .vmem S512x4096 .f32) (harg2 : arg2.IsWhole) (arg3 : Memref sig .tc .vmem S64x64 .f32) (harg3 : arg3.IsWhole) (arg4 : Memref sig .tc .vmem S1x64 .f32) (harg4 : arg4.IsWhole) (arg6 : Memref sig .tc .vmem S4096x64 .f32) (harg6 : arg6.IsWhole)
    (hF : atFirst (grid0.coords t)) (hW : ¬atWait (grid0.coords t)) (hL : ¬atLast (grid0.coords t))
    (x0 : Vec F S4096x64 .f32) (x1 : Vec F S512x4096 .f32) (x2 : Vec F S64x64 .f32) (x3 : Vec F S1x64 .f32)
    (G : Res (F := F) c) (hG : Computes c G (Ring.bk 8 t.val) x1 (k0_pay1 x0 x2) x3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d)
            ∗ blankAt c (Ring.bk 8 t.val) ∗ freeAt c (Ring.sl 2 t.val) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay1 x0 x2)
                ∗ copyAt c G (Ring.sl 2 t.val) (Ring.bk 8 t.val) ∗ (∃ W', owes (c : Thread nD τ) 0 W')) -∗ K ⟨⟩))
          ⊢ wp frame (wpE (defs₀ (F := F)) Variants.none c none) Set.univ (cc0__gcn_kernel (grid0.coords t) arg1 harg1 arg2 harg2 arg3 harg3 arg4 harg4 resM (Memref.isWhole_whole _) arg6 harg6 stageM (Memref.isWhole_whole _) cc0_scratch2) K := by
    intro W K
    haveI : Fact (atFirst (grid0.coords t)) := ⟨hF⟩
    haveI : Fact (¬atWait (grid0.coords t)) := ⟨hW⟩
    haveI : Fact (¬atLast (grid0.coords t)) := ⟨hL⟩
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d, %fs, %hfs, HS⟩, ⟨%fp, Hp⟩, ⟨HF, %fe, HT⟩, HW, Hk⟩
    obtain rfl := harg1.eq_unread hf0; obtain rfl := harg2.eq_unread hf1; obtain rfl := harg3.eq_unread hf2; obtain rfl := harg4.eq_unread hf3; obtain rfl := harg6.eq_unread hfs
    sl_exec (disch := first | sl_exact hF | sl_exact hW | sl_exact hL)
    have hs : arg6.view.read (Elt F) (arg6.view.writes (Elt F) (harg6.unread d) (run_first.sl.HS_1 c arg1 harg1 arg3 harg3 x0 x2)) = k0_pay1 x0 x2 := by
      refine (View.read_writes_full (Val := Elt F) arg6.view _ _ _ []).trans ?_
      rw [View.readAt_full, View.readAt_full, harg1.read_unread, harg3.read_unread]
    have hv : run_first.sl.v8 c arg1 harg1 arg3 harg3 arg6 x0 x2 = k0_pay1 x0 x2 := by
      refine (View.readCov_full (Val := Elt F) arg6.view _ _ _ []).trans ?_
      rw [View.readAt_full, View.readAt_full, harg1.read_unread, harg3.read_unread]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS]
    · iexists (arg6.view.writes (Elt F) (harg6.unread d) (run_first.sl.HS_1 c arg1 harg1 arg3 harg3 x0 x2))
      isplitr
      · ipureintro; exact hs
      iexact HS
    isplitl [HF]
    · iexists _, _; isplitr; swap; · iexact HF
      ipureintro
      refine lands_store c G _ _ fp fe _ _ (off4_eq t) _ fun a => ?_
      rw [hv, View.readAt_full, View.readAt_full, harg2.read_unread, harg4.read_unread]
      exact hG a
    iexists _; iexact HW

set_option maxHeartbeats 1000000 in
/-- THE SECOND POINT: the block is computed from the stored product, put in the free tile, and its copy started. -/
theorem run_second (c : Dev nD) (t : Fin cfg0.N) (arg1 : Memref sig .tc .vmem S4096x64 .f32) (harg1 : arg1.IsWhole) (arg2 : Memref sig .tc .vmem S512x4096 .f32) (harg2 : arg2.IsWhole) (arg3 : Memref sig .tc .vmem S64x64 .f32) (harg3 : arg3.IsWhole) (arg4 : Memref sig .tc .vmem S1x64 .f32) (harg4 : arg4.IsWhole) (arg6 : Memref sig .tc .vmem S4096x64 .f32) (harg6 : arg6.IsWhole)
    (hF : ¬atFirst (grid0.coords t)) (hW : ¬atWait (grid0.coords t)) (hL : ¬atLast (grid0.coords t))
    (x0 : Vec F S4096x64 .f32) (x1 : Vec F S512x4096 .f32) (x2 : Vec F S64x64 .f32) (x3 : Vec F S1x64 .f32) (s : Vec F S4096x64 .f32)
    (G : Res (F := F) c) (hG : Computes c G (Ring.bk 8 t.val) x1 s x3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s
            ∗ blankAt c (Ring.bk 8 t.val) ∗ freeAt c (Ring.sl 2 t.val) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s
                ∗ copyAt c G (Ring.sl 2 t.val) (Ring.bk 8 t.val) ∗ (∃ W', owes (c : Thread nD τ) 0 W')) -∗ K ⟨⟩))
          ⊢ wp frame (wpE (defs₀ (F := F)) Variants.none c none) Set.univ (cc0__gcn_kernel (grid0.coords t) arg1 harg1 arg2 harg2 arg3 harg3 arg4 harg4 resM (Memref.isWhole_whole _) arg6 harg6 stageM (Memref.isWhole_whole _) cc0_scratch2) K := by
    intro W K
    haveI : Fact (¬atFirst (grid0.coords t)) := ⟨hF⟩
    haveI : Fact (¬atWait (grid0.coords t)) := ⟨hW⟩
    haveI : Fact (¬atLast (grid0.coords t)) := ⟨hL⟩
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fs, %hfs, HS⟩, ⟨%fp, Hp⟩, ⟨HF, %fe, HT⟩, HW, Hk⟩
    obtain rfl := harg1.eq_unread hf0; obtain rfl := harg2.eq_unread hf1; obtain rfl := harg3.eq_unread hf2; obtain rfl := harg4.eq_unread hf3; obtain rfl := harg6.eq_unread hfs
    sl_exec (disch := first | sl_exact hF | sl_exact hW | sl_exact hL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS]
    · iexists _; isplitr; · ipureintro; exact harg6.read_unread _
      iexact HS
    isplitl [HF]
    · iexists _, _; isplitr; swap; · iexact HF
      ipureintro
      refine lands_store c G _ _ fp fe _ _ (off4_eq t) _ fun a => ?_
      rw [View.readAt_full, View.readAt_full, View.readAt_full, harg2.read_unread, harg6.read_unread, harg4.read_unread]
      exact hG a
    iexists _; iexact HW

set_option maxHeartbeats 1000000 in
/-- A POINT BETWEEN: the copy of two points ago is waited for, its band then holds what `G` has there; the block computed
    from the stored product goes into the tile that came back and its copy is started. -/
theorem run_mid (c : Dev nD) (t : Fin cfg0.N) (arg1 : Memref sig .tc .vmem S4096x64 .f32) (harg1 : arg1.IsWhole) (arg2 : Memref sig .tc .vmem S512x4096 .f32) (harg2 : arg2.IsWhole) (arg3 : Memref sig .tc .vmem S64x64 .f32) (harg3 : arg3.IsWhole) (arg4 : Memref sig .tc .vmem S1x64 .f32) (harg4 : arg4.IsWhole) (arg6 : Memref sig .tc .vmem S4096x64 .f32) (harg6 : arg6.IsWhole)
    (hF : ¬atFirst (grid0.coords t)) (hW : atWait (grid0.coords t)) (hL : ¬atLast (grid0.coords t))
    (x0 : Vec F S4096x64 .f32) (x1 : Vec F S512x4096 .f32) (x2 : Vec F S64x64 .f32) (x3 : Vec F S1x64 .f32) (s : Vec F S4096x64 .f32)
    (G : Res (F := F) c) (hG : Computes c G (Ring.bk 8 t.val) x1 s x3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s
            ∗ blankAt c (Ring.bk 8 t.val) ∗ copyAt c G (Ring.sl 2 t.val) (Ring.bk 8 (t.val - 2)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s
                ∗ doneAt c G (Ring.bk 8 (t.val - 2)) ∗ copyAt c G (Ring.sl 2 t.val) (Ring.bk 8 t.val) ∗ (∃ W', owes (c : Thread nD τ) 0 W')) -∗ K ⟨⟩))
          ⊢ wp frame (wpE (defs₀ (F := F)) Variants.none c none) Set.univ (cc0__gcn_kernel (grid0.coords t) arg1 harg1 arg2 harg2 arg3 harg3 arg4 harg4 resM (Memref.isWhole_whole _) arg6 harg6 stageM (Memref.isWhole_whole _) cc0_scratch2) K := by
    intro W K
    haveI : Fact (¬atFirst (grid0.coords t)) := ⟨hF⟩
    haveI : Fact (atWait (grid0.coords t)) := ⟨hW⟩
    haveI : Fact (¬atLast (grid0.coords t)) := ⟨hL⟩
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fs, %hfs, HS⟩, ⟨%fp, Hp⟩, ⟨%ff, %fe, %hff, HF⟩, HW, Hk⟩
    obtain rfl := harg1.eq_unread hf0; obtain rfl := harg2.eq_unread hf1; obtain rfl := harg3.eq_unread hf2; obtain rfl := harg4.eq_unread hf3; obtain rfl := harg6.eq_unread hfs
    sl_exec (disch := first | sl_exact hF | sl_exact hW | sl_exact hL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS]
    · iexists _; isplitr; · ipureintro; exact harg6.read_unread _
      iexact HS
    isplitl [HF_dst]
    · unfold doneAt; rw [← bandAt_lands c G _ _ hff]; iexact HF_dst
    isplitl [HF]
    · iexists _, _; isplitr; swap; · iexact HF
      ipureintro
      refine lands_store c G _ _ fp fe _ _ (off4_eq t) _ fun a => ?_
      rw [View.readAt_full, View.readAt_full, View.readAt_full, harg2.read_unread, harg6.read_unread, harg4.read_unread]
      exact hG a
    iexists _; iexact HW

set_option maxHeartbeats 1000000 in
/-- THE LAST POINT: as a point between, and then the two copies running are waited for: the three bands concerned hold what
    `G` has there, and both groups are free. -/
theorem run_last (c : Dev nD) (t : Fin cfg0.N) (arg1 : Memref sig .tc .vmem S4096x64 .f32) (harg1 : arg1.IsWhole) (arg2 : Memref sig .tc .vmem S512x4096 .f32) (harg2 : arg2.IsWhole) (arg3 : Memref sig .tc .vmem S64x64 .f32) (harg3 : arg3.IsWhole) (arg4 : Memref sig .tc .vmem S1x64 .f32) (harg4 : arg4.IsWhole) (arg6 : Memref sig .tc .vmem S4096x64 .f32) (harg6 : arg6.IsWhole)
    (hF : ¬atFirst (grid0.coords t)) (hW : atWait (grid0.coords t)) (hL : atLast (grid0.coords t))
    (x0 : Vec F S4096x64 .f32) (x1 : Vec F S512x4096 .f32) (x2 : Vec F S64x64 .f32) (x3 : Vec F S1x64 .f32) (s : Vec F S4096x64 .f32)
    (G : Res (F := F) c) (hG : Computes c G (Ring.bk 8 t.val) x1 s x3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s
            ∗ blankAt c (Ring.bk 8 t.val) ∗ copyAt c G (Ring.sl 2 t.val) (Ring.bk 8 (t.val - 2)) ∗ copyAt c G (Ring.sl 2 (t.val + 1)) (Ring.bk 8 (t.val - 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s
                ∗ doneAt c G (Ring.bk 8 (t.val - 2)) ∗ doneAt c G (Ring.bk 8 (t.val - 1)) ∗ doneAt c G (Ring.bk 8 t.val) ∗ freeAt c (Ring.sl 2 t.val) ∗ freeAt c (Ring.sl 2 (t.val + 1)) ∗ (∃ W', owes (c : Thread nD τ) 0 W')) -∗ K ⟨⟩))
          ⊢ wp frame (wpE (defs₀ (F := F)) Variants.none c none) Set.univ (cc0__gcn_kernel (grid0.coords t) arg1 harg1 arg2 harg2 arg3 harg3 arg4 harg4 resM (Memref.isWhole_whole _) arg6 harg6 stageM (Memref.isWhole_whole _) cc0_scratch2) K := by
    intro W K
    haveI : Fact (¬atFirst (grid0.coords t)) := ⟨hF⟩
    haveI : Fact (atWait (grid0.coords t)) := ⟨hW⟩
    haveI : Fact (atLast (grid0.coords t)) := ⟨hL⟩
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%fs, %hfs, HS⟩, ⟨%fp, Hp⟩, ⟨%ff, %fe, %hff, HF⟩, ⟨%ff', %fe', %hff', HF'⟩, HW, Hk⟩
    obtain rfl := harg1.eq_unread hf0; obtain rfl := harg2.eq_unread hf1; obtain rfl := harg3.eq_unread hf2; obtain rfl := harg4.eq_unread hf3; obtain rfl := harg6.eq_unread hfs
    sl_exec (disch := first | sl_exact hF | sl_exact hW | sl_exact hL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS]
    · iexists _; isplitr; · ipureintro; exact harg6.read_unread _
      iexact HS
    isplitl [HF_dst]
    · unfold doneAt; rw [← bandAt_lands c G _ _ hff]; iexact HF_dst
    isplitl [HF'_dst]
    · unfold doneAt; rw [← bandAt_lands c G _ _ hff']; iexact HF'_dst
    isplitl [Hp]
    · have hp : Lands c G (Ring.bk 8 t.val) ((band (Ring.bk 8 t.val)).view.writes (Elt F) fp
          [⟨Rect.whole S512x64, run_last.sl.dma5 c t arg2 harg2 arg4 harg4 arg6 harg6 x1 x3 s fe⟩]) := by
        refine lands_store c G _ _ fp fe _ _ (off4_eq t) _ fun a => ?_
        rw [View.readAt_full, View.readAt_full, View.readAt_full, harg2.read_unread, harg6.read_unread, harg4.read_unread]
        exact hG a
      unfold doneAt; rw [← bandAt_lands c G _ _ hp]; iexact Hp
    isplitl [HF HF_src]
    · isplitl [HF]; · iexact HF
      iexists _; iexact HF_src
    isplitl [HF' HF'_src]
    · isplitl [HF']; · iexact HF'
      iexists _; iexact HF'_src
    iexists _; iexact HW

end Cert.KernelIdeal.Hand

end
-- ==== Proof.KernelIdeal.Data.lean ====
/- What the kernel leaves in the result, and the invariant between grid points: the stored product of the features and
   the weights from the first point on, the generator register, and the output ring. The body keeps the invariant at
   every point. -/
module

public import proofs.«01_k».proof.Proof.KernelIdeal.Runs
public import proofs.«01_k».proof.Proof.Gen.KernelIdeal.Frame
public import Idealize.ShloMosaic.Lib.ValueIdxCore
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ)

/-! ## What the kernel computes -/

/-- The grid point of band `u`. -/
abbrev pointOf (u : Fin 8) : Fin cfg0.N := ⟨u.val, lt_of_lt_of_eq u.isLt (N_0.symm)⟩

/-- The product of the features and the weights, as the first point stores it. -/
def prodOf (c : Dev nD) : Vec F S4096x64 .f32 := k0_pay1 (iblk m c 0 (pointOf 0)) (iblk m c 2 (pointOf 0))
/-- The block of the result that grid point `u` computes. -/
def blockOf (c : Dev nD) (u : Fin 8) : Vec F S1x512x64 .f32 := k0_pay2 (iblk m c 1 (pointOf u)) (prodOf m c) (iblk m c 3 (pointOf u))
/-- The whole result: row `r` is row `r % 512` of block `r / 512`. -/
def resOf (c : Dev nD) : Res (F := F) c := fun (i : S4096x64.Idx) =>
  blockOf m c ⟨(i 0).val / 512, by have := idx2_lt0 i; omega⟩ (ix3 (⟨0, Nat.one_pos⟩ : Fin 1) (⟨(i 0).val % 512, Nat.mod_lt _ (by decide)⟩ : Fin 512) (i 1))

/-- The element of the result under index `a` of band `u`. -/
def bandIdx (u : Fin 8) (a : S512x64.Idx) : S4096x64.Idx := (band u).view.emb a

/-- The whole result has block `u` on band `u`. -/
theorem resOf_band (c : Dev nD) (u : Fin 8) (a : S512x64.Idx) :
    resOf m c ((band u).view.emb a) = blockOf m c u (Shape.reshapeEquiv squeezes_S1x512x64_S512x64.numel_eq a) := by
  have h0 : (bandIdx u a 0).val = 512 * u.val + 1 * (a 0).val := rfl
  have h1 : (bandIdx u a 1).val = 0 + 1 * (a 1).val := rfl
  have ha := idx2_lt0 a
  have e : (Shape.reshapeEquiv squeezes_S1x512x64_S512x64.numel_eq a : S1x512x64.Idx)
      = ix3 (⟨0, Nat.one_pos⟩ : Fin 1) (a 0) (a 1) :=
    (congrArg _ (eq_ix2 a)).trans (reshapeEquiv_ix2_1ab squeezes_S1x512x64_S512x64.numel_eq (a 0) (a 1))
  rw [e]
  have hu : (⟨(bandIdx u a 0).val / 512, by rw [h0]; have := u.isLt; omega⟩ : Fin 8) = u := Fin.ext (by show _ / 512 = _; rw [h0]; omega)
  have hr : (⟨(bandIdx u a 0).val % 512, Nat.mod_lt _ (by decide)⟩ : Fin 512) = a 0 := Fin.ext (by show _ % 512 = _; rw [h0]; omega)
  have hc : bandIdx u a 1 = a 1 := Fin.ext (by rw [h1]; omega)
  show blockOf m c ⟨(bandIdx u a 0).val / 512, by rw [h0]; have := u.isLt; omega⟩
    (ix3 (⟨0, Nat.one_pos⟩ : Fin 1) (⟨(bandIdx u a 0).val % 512, Nat.mod_lt _ (by decide)⟩ : Fin 512) (bandIdx u a 1)) = _
  rw [hu, hr, hc]; rfl

/-- So at point `t` the body computes what the whole result has on the point's band. -/
theorem computes (c : Dev nD) (t : Fin cfg0.N) :
    Computes c (resOf m c) (Ring.bk 8 t.val) (iblk m c 1 t) (prodOf m c) (iblk m c 3 t) := fun a => by
  have ht : t.val < 8 := lt_of_lt_of_eq t.isLt N_0
  have e : pointOf (Ring.bk 8 t.val) = t := Fin.ext (Nat.mod_eq_of_lt ht)
  have h := resOf_band m c (Ring.bk 8 t.val) a
  unfold blockOf at h
  rwa [e] at h

/-! ## The invariant and the pipeline's proof data -/

/-- The scratch of the product: anything before the first point, the product after it. -/
def prodAt (c : Dev nD) : ℕ → sProp 𝕄
  | 0 => iprop(∃ d, owns (c : Thread nD τ) suppM fullShare d)
  | _ + 1 => owns (c : Thread nD τ) suppM fullShare (prodOf m c)

/-- The invariant before point `k`. -/
def inv (c : Dev nD) (k : ℕ) : sProp 𝕄 := iprop(prodAt m c k ∗ (∃ r, prngReg c r) ∗ ringAt c (resOf m c) k)

/-- The pipeline's proof data: the body leaves every operand's staging buffer at its block. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := inv m c t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.val_castSucc]
theorem inv_succ (c : Dev nD) (t : Fin cfg0.N) : (dats m 0 c).Φ t.succ = inv m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- The features' staging buffer holds the features at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
/-- The adjacency's staging buffer holds the point's band of it. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
/-- The weights' staging buffer holds the weights at every point. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
/-- The bias row's staging buffer holds the bias row at every point. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-! ## The body keeps the invariant -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1200000 in
/-- The body at any point: its role there is one of the four, and the ring's lemma for the role says which pieces the run
    takes and where those it gives back go. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, inv_castSucc, inv_succ]
  unfold Dat.owesAt Pipeline.owesWithin
  rw [show (dats m 0 c).owed t.castSucc = 0 from rfl, show (dats m 0 c).owed t.succ = 0 from rfl]
  have hgN : grid0.N = 8 := N_0
  have hN : t.val < 8 := lt_of_lt_of_eq t.isLt N_0
  have hcomp := computes m c t
  unfold inv ringAt
  rcases (show t.val = 0 ∨ t.val = 1 ∨ (2 ≤ t.val ∧ t.val + 1 < 8) ∨ (2 ≤ t.val ∧ t.val + 1 = 8) by omega) with h | h | ⟨h, h'⟩ | ⟨h, h'⟩
  · have ht : t = pointOf 0 := Fin.ext h
    have hp : prodOf m c = k0_pay1 (iblk m c 0 t) (iblk m c 2 t) := by rw [ht]; rfl
    rw [hp] at hcomp
    rw [Ring.AtBΦ_lt _ _ _ _ _ t.val (by omega), Ring.AtB2_zero' 2 _ _ _ _ t.val h, Ring.AtBΦ_lt _ _ _ _ _ (t.val + 1) (by omega), Ring.AtB22_next_zero' _ _ _ _ t.val h]
    rw [show prodAt m c t.val = iprop(∃ d, owns (c : Thread nD τ) suppM fullShare d) by rw [h]; rfl, show prodAt m c (t.val + 1) = owns (c : Thread nD τ) suppM fullShare (prodOf m c) from rfl, hp]
    iintro ⟨⟨HS, Hg, ⟨⟨Hp, HA⟩, Hfr, Hfx⟩⟩, ⟨%W, -, HW⟩, ⟨%d0, H0⟩, ⟨%d1, H1⟩, ⟨%d2, H2⟩, ⟨%d3, H3⟩⟩
    iapply (run_first c t _ _ _ _ _ _ _ _ _ _ ((atFirst_iff t).mpr h) (fun x => by have := (atWait_iff t).mp x; omega) (fun x => by have := (atLast_iff t).mp x; omega)
      (iblk m c 0 t) (iblk m c 1 t) (iblk m c 2 t) (iblk m c 3 t) (resOf m c) hcomp W _)
    isplitl [H0]; · iexact H0
    isplitl [H1]; · iexact H1
    isplitl [H2]; · iexact H2
    isplitl [H3]; · iexact H3
    isplitl [HS]; · iexact HS
    isplitl [Hp]; · iexact Hp
    isplitl [Hfr]; · iexact Hfr
    isplitl [HW]; · iexact HW
    iintro ⟨H0, H1, H2, H3, HS, HF, ⟨%W', HW'⟩⟩
    isplitl [HS Hg HA Hfx HF]
    · isplitl [HS]; · iexact HS
      isplitl [Hg]; · iexact Hg
      isplitl [HA]; · iexact HA
      isplitl [Hfx]; · iexact Hfx
      iexact HF
    isplitl [HW']
    · iexists W'; isplitr; · ipureintro; exact fun _ _ => Or.inl trivial
      iexact HW'
    isplitl [H0]; · iexact H0
    isplitl [H1]; · iexact H1
    isplitl [H2]; · iexact H2
    iexact H3
  all_goals
    obtain ⟨k, hk⟩ : ∃ k, t.val = k + 1 := ⟨t.val - 1, by omega⟩
    rw [show prodAt m c t.val = owns (c : Thread nD τ) suppM fullShare (prodOf m c) by rw [hk]; rfl, show prodAt m c (t.val + 1) = owns (c : Thread nD τ) suppM fullShare (prodOf m c) from rfl]
  · rw [Ring.AtBΦ_lt _ _ _ _ _ t.val (by omega), Ring.AtB22_one' _ _ _ _ t.val h (by decide), Ring.AtBΦ_lt _ _ _ _ _ (t.val + 1) (by omega), Ring.AtB22_next_one' _ _ _ _ t.val h]
    iintro ⟨⟨HS, Hg, ⟨⟨Hp, HA⟩, Hfr, Hc⟩⟩, ⟨%W, -, HW⟩, ⟨%d0, H0⟩, ⟨%d1, H1⟩, ⟨%d2, H2⟩, ⟨%d3, H3⟩⟩
    iapply (run_second c t _ _ _ _ _ _ _ _ _ _ (fun x => by have := (atFirst_iff t).mp x; omega) (fun x => by have := (atWait_iff t).mp x; omega) (fun x => by have := (atLast_iff t).mp x; omega)
      (iblk m c 0 t) (iblk m c 1 t) (iblk m c 2 t) (iblk m c 3 t) (prodOf m c) (resOf m c) hcomp W _)
    isplitl [H0]; · iexact H0
    isplitl [H1]; · iexact H1
    isplitl [H2]; · iexact H2
    isplitl [H3]; · iexact H3
    isplitl [HS]; · iexact HS
    isplitl [Hp]; · iexact Hp
    isplitl [Hfr]; · iexact Hfr
    isplitl [HW]; · iexact HW
    iintro ⟨H0, H1, H2, H3, HS, HF, ⟨%W', HW'⟩⟩
    isplitl [HS Hg HA Hc HF]
    · isplitl [HS]; · iexact HS
      isplitl [Hg]; · iexact Hg
      isplitl [HA]; · iexact HA
      isplitl [Hc]; · iexact Hc
      iexact HF
    isplitl [HW']
    · iexists W'; isplitr; · ipureintro; exact fun _ _ => Or.inl trivial
      iexact HW'
    isplitl [H0]; · iexact H0
    isplitl [H1]; · iexact H1
    isplitl [H2]; · iexact H2
    iexact H3
  · rw [Ring.AtBΦ_lt _ _ _ _ _ t.val (by omega), Ring.AtB22_here _ _ _ _ t.val h (by omega), Ring.AtBΦ_lt _ _ _ _ _ (t.val + 1) (by omega), Ring.AtB22_next _ _ _ _ t.val h (by omega)]
    iintro ⟨⟨HS, Hg, ⟨⟨Hp, HA⟩, HB, HF, Hc⟩⟩, ⟨%W, -, HW⟩, ⟨%d0, H0⟩, ⟨%d1, H1⟩, ⟨%d2, H2⟩, ⟨%d3, H3⟩⟩
    iapply (run_mid c t _ _ _ _ _ _ _ _ _ _ (fun x => by have := (atFirst_iff t).mp x; omega) ((atWait_iff t).mpr h) (fun x => by have := (atLast_iff t).mp x; omega)
      (iblk m c 0 t) (iblk m c 1 t) (iblk m c 2 t) (iblk m c 3 t) (prodOf m c) (resOf m c) hcomp W _)
    isplitl [H0]; · iexact H0
    isplitl [H1]; · iexact H1
    isplitl [H2]; · iexact H2
    isplitl [H3]; · iexact H3
    isplitl [HS]; · iexact HS
    isplitl [Hp]; · iexact Hp
    isplitl [HF]; · iexact HF
    isplitl [HW]; · iexact HW
    iintro ⟨H0, H1, H2, H3, HS, HD, HF, ⟨%W', HW'⟩⟩
    isplitl [HS Hg HA HB Hc HD HF]
    · isplitl [HS]; · iexact HS
      isplitl [Hg]; · iexact Hg
      isplitl [HA]; · iexact HA
      isplitl [HD HB]
      · isplitl [HD]; · iexact HD
        iexact HB
      isplitl [Hc]; · iexact Hc
      iexact HF
    isplitl [HW']
    · iexists W'; isplitr; · ipureintro; exact fun _ _ => Or.inl trivial
      iexact HW'
    isplitl [H0]; · iexact H0
    isplitl [H1]; · iexact H1
    isplitl [H2]; · iexact H2
    iexact H3
  · rw [Ring.AtBΦ_lt _ _ _ _ _ t.val (by omega), Ring.AtB22_here_last _ _ _ _ t.val h h', Ring.AtBΦ_end _ _ _ _ _ (t.val + 1) h', Ring.AtB22_drained _ _ t.val h h']
    iintro ⟨⟨HS, Hg, ⟨Hp, HB, HF, HF'⟩⟩, ⟨%W, -, HW⟩, ⟨%d0, H0⟩, ⟨%d1, H1⟩, ⟨%d2, H2⟩, ⟨%d3, H3⟩⟩
    iapply (run_last c t _ _ _ _ _ _ _ _ _ _ (fun x => by have := (atFirst_iff t).mp x; omega) ((atWait_iff t).mpr h) ((atLast_iff t).mpr (by omega))
      (iblk m c 0 t) (iblk m c 1 t) (iblk m c 2 t) (iblk m c 3 t) (prodOf m c) (resOf m c) hcomp W _)
    isplitl [H0]; · iexact H0
    isplitl [H1]; · iexact H1
    isplitl [H2]; · iexact H2
    isplitl [H3]; · iexact H3
    isplitl [HS]; · iexact HS
    isplitl [Hp]; · iexact Hp
    isplitl [HF]; · iexact HF
    isplitl [HF']; · iexact HF'
    isplitl [HW]; · iexact HW
    iintro ⟨H0, H1, H2, H3, HS, HD, HD', HD'', HFr, HFr', ⟨%W', HW'⟩⟩
    isplitl [HS Hg HB HD HD' HD'' HFr HFr']
    · isplitl [HS]; · iexact HS
      isplitl [Hg]; · iexact Hg
      isplitl [HD HD' HD'' HB]
      · isplitl [HD'']; · iexact HD''
        isplitl [HD]; · iexact HD
        isplitl [HD']; · iexact HD'
        iexact HB
      isplitl [HFr]; · iexact HFr
      iexact HFr'
    isplitl [HW']
    · iexists W'; isplitr; · ipureintro; exact fun _ _ => Or.inl trivial
      iexact HW'
    isplitl [H0]; · iexact H0
    isplitl [H1]; · iexact H1
    isplitl [H2]; · iexact H2
    iexact H3

/-- The body as the pipeline calls it at point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch's ends -/

/-- The kernel's own semaphore cells. -/
abbrev ownCells : Fin 2 → SemLoc sig := fun j => (![SemLoc.dma 5, SemLoc.dma 6] : Fin 2 → SemLoc sig) j
theorem ownCellFacts : Pipeline.OwnSemFacts spec0 ownCells := by decide
theorem ownCells_eq (c : Dev nD) :
    (Pipeline.ownSems0 (Ix := Unit) (Name := ℕ) (U := Pipeline.UC sig nD τ) (Lvl := ℕ) (Val := Elt F) (τ := τ) ownCells c : sProp 𝕄)
      = iprop(semVal ((c : Thread nD τ), SemLoc.dma 5) 0 ∗ semVal ((c : Thread nD τ), SemLoc.dma 6) 0) := by
  rw [Pipeline.ownSems0_eq_of_list c ownCells [0, 1] (by decide) (by decide)]; rfl

/-- The result is the one array the body writes by its own copies. -/
def written : Finset (Ref sig .tc) := {main_v1}
theorem written_sub : written ⊆ Pipeline.restRefs sig spec0 := by decide

/-- What every buffer holds at the end: the result at `resOf`, the others as the region found them. -/
def endOf (c : Dev nD) (b : Ref sig .tc) : Buf (Elt F) ((c : Thread nD τ).loc b) :=
  Function.update (V m c) main_v1 (resOf m c) b
theorem endOf_v1 (c : Dev nD) : endOf m c main_v1 = resOf m c := Function.update_self ..

/-- The launch hands the region the invariant before the first point, -/
theorem hin (c : Dev nD) : Pipeline.Ends spec0 ownCells written c (V m c) ⊢ (dats m 0 c).Φ 0 := by
  rw [show (dats m 0 c).Φ 0 = inv m c 0 from rfl]
  unfold Pipeline.Ends inv written
  rw [Pipeline.routed_singleton, ownCells_eq, scopedRest0_eq]
  rw [show prodAt m c 0 = iprop(∃ d, owns (c : Thread nD τ) suppM fullShare d) from rfl]
  simp only [owns_whole]
  iintro ⟨HR, HQ, ⟨HS, HT⟩, Hg⟩
  isplitl [HS]; · iexact HS
  isplitl [Hg]; · iexact Hg
  iapply (ring_in c (resOf m c) (V m c main_v1))
  isplitl [HT]; · iexact HT
  isplitl [HQ]; · iexact HQ
  iexact HR
/-- and takes back the invariant after the last. -/
theorem hout (c : Dev nD) : (dats m 0 c).Φ (Fin.last cfg0.N) ⊢ Pipeline.Ends spec0 ownCells written c (endOf m c) := by
  rw [show (dats m 0 c).Φ (Fin.last cfg0.N) = inv m c 8 from congrArg (inv m c) N_0]
  unfold Pipeline.Ends inv written
  rw [Pipeline.routed_singleton, ownCells_eq, scopedRest0_eq, endOf_v1]
  rw [show prodAt m c 8 = owns (c : Thread nD τ) suppM fullShare (prodOf m c) from rfl]
  simp only [owns_whole]
  iintro ⟨HS, Hg, HR⟩
  ihave HX := (ring_out c (resOf m c)) $$ HR
  icases HX with ⟨HT, HQ, HR⟩
  isplitl [HR]; · iexact HR
  isplitl [HQ]; · iexact HQ
  isplitl [HS HT]
  · isplitl [HS]; · iexists _; iexact HS
    iexact HT
  iexact Hg

end Cert.KernelIdeal.Hand

end
-- ==== Proof.KernelIdeal.Launch.lean ====
/- The launch: every execution of the program ends, with the result at what the bands' blocks make it, the arguments
   unchanged, and every semaphore counter at zero. -/
module

public import proofs.«01_k».proof.Proof.KernelIdeal.Data

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 800000 in
/-- The host operations before the region, then the region. -/
theorem main_prefix (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: the routed buffers end as `endOf` says, the arrays and the rest as the library says, the counters at zero. -/
theorem routed_run :
    θ_run defs (onTc (τ := τ) (main (F := F))) ⟨m, fun _ => 0, ρ⟩
      (fun r => Pipeline.RoutedPost cfgs (dats m) 0 written (V m) (endOf m) r ∧ r.2.sem = fun _ => 0) :=
  Pipeline.θ_run_frame_routed cfgs (dats m) 0 launch0 (osem := ownCells) ownCellFacts defs₀ Variants.none m ρ main
    (fun c => (body_obligation m c).loose) (fun c => (dats m 0 c).share_full fun _ => rfl) (fun _ _ => rfl)
    (V m) (main_prefix m _) (A_eq m) written written_sub (endOf m) (hin m) (hout m)
    (Q' := fun r => Pipeline.RoutedPost cfgs (dats m) 0 written (V m) (endOf m) r ∧ r.2.sem = fun _ => 0)
    (fun _ h => h)

/-- THE RUN: on every device the result is `resOf`, the arguments are unchanged, and every counter is at zero. -/
theorem run :
    θ_run defs (onTc (τ := τ) (main (F := F))) ⟨m, fun _ => 0, ρ⟩ (fun r => (∀ c : Dev nD,
      r.2.mem ((c.tc : Thread nD τ).loc main_v1) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2.1 main_v1 (Finset.mem_singleton_self _)).trans (endOf_v1 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2.2 main_arg3 (Finset.mem_sdiff.mpr ⟨Pipeline.mem_restRefs_of main_arg3 (by decide) (by decide), by decide⟩)).trans (V_main_arg3 m c)⟩, h.2⟩)
    (routed_run m ρ)

/-- The frame: it ends, the arguments are unchanged, and every counter is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run m ρ)

end Cert.KernelIdeal.Hand

end
-- ==== Proof.AsPrinted.lean ====
/- The program as printed and the idealized one are the same text, so the run proved of the second, for any float
   values, is a run of the first. -/
module

public import proofs.«01_k».proof.Proof.KernelIdeal.Launch
public import proofs.«01_k».proof.Proof.Gen.Kernel.Launch

@[expose] public section

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The two host programs are one. -/
theorem main_eq : Cert.Kernel.main (F := F) = Cert.KernelIdeal.main (F := F) := by
  with_unfolding_all rfl

/-- The two kernel bodies are one. -/
theorem body_eq : @Cert.Kernel.cc0__gcn_kernel F _ _ = @Cert.KernelIdeal.cc0__gcn_kernel F _ _ := by
  with_unfolding_all rfl

/-- The two body tables are one. -/
theorem defs₀_eq : Cert.Kernel.defs₀ (F := F) = Cert.KernelIdeal.defs₀ (F := F) := by
  refine congrArg Defs.onTc (funext fun l => funext fun a => ?_)
  match l, a with
  | 0, (t, s) => with_unfolding_all rfl

/-- And so are the tables with the region and the pipeline. -/
theorem defs_eq : Cert.Kernel.defs (F := F) = Cert.KernelIdeal.defs (F := F) :=
  congrArg (Pipeline.defs Cert.Kernel.pcfgs) defs₀_eq

/-- The frame of the program as printed: it ends, the arguments are unchanged, and every counter is at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Hand.frame (F := F) m ρ

end Cert.Kernel.Hand

end
-- ==== Proof.Value.lean ====
/- The value: at exact arithmetic the kernel's result and the reference's are the same function of the arguments,
   `adj · (x · w) + b` at every row and column. -/
module

public import proofs.«01_k».proof.Proof.KernelIdeal.Launch
public import proofs.«01_k».proof.Proof.Gen.ReferenceIdeal.Run
public import Idealize.ShloMosaic.Lib.KernelVsHost
public import Idealize.ShloMosaic.Lib.StackMember
public import Idealize.ShloMosaic.Lib.MatmulPlain
public import Idealize.ShloMosaic.Lib.Claim
public import Idealize.ShloMosaic.Lib.Pointwise
public import Idealize.ShloMosaic.Lib.Pipeline.ValueKit
public import Idealize.ShloMosaic.Lib.ValueLayout

@[expose] public section

set_option maxRecDepth 16384

noncomputable section

open Idealize.ShloMosaic hiding ix1 ix2 ix3 eq_ix2
open Idealize.ShloMosaic.TcCoe Idealize.ShloMosaic.Tactic Idealize.ShloMosaic.ValueIdx Idealize.SL.Sem
open scoped BigOperators

namespace Cert.KernelIdeal.Hand

open Cert.KernelIdeal Cert.KernelIdeal.Gen

variable (m : (ℓ : Loc nD τ sig) → Buf (Elt Ideal) ℓ)

/-- The features times the weights at row `k`, column `j`. -/
def featWeight (x : FVec Ideal S4096x64 .f32) (w : FVec Ideal S64x64 .f32) (k : Fin 4096) (j : Fin 64) : EReal :=
  ∑ l : Fin 64, x (ix2 k l) * w (ix2 l j)

/-- The layer at row `r`, column `j`: the adjacency's row against the column of the features times the weights, plus the
    bias. -/
def layer (x : FVec Ideal S4096x64 .f32) (adj : FVec Ideal S4096x4096 .f32) (w : FVec Ideal S64x64 .f32) (b : FVec Ideal S64 .f32)
    (r : Fin 4096) (j : Fin 64) : EReal :=
  (∑ k : Fin 4096, adj (ix2 r k) * featWeight x w k j) + b (ix1 j)

/-- Every window's block at point `t`: the whole array, but the adjacency's is row band `t`. -/
theorem idx : ∀ t : Fin cfg0.N, win0_0.index t = ![0, 0] ∧ win0_1.index t = ![t.val, 0] ∧ win0_2.index t = ![0, 0] ∧ win0_3.index t = ![0, 0] :=
  (by decide +kernel : ∀ t : Fin grid0.N, _)

/-- The features' block is the features. -/
theorem blk_0 (c : Dev nD) (t : Fin cfg0.N) : (iblk m c 0 t : FVec Ideal S4096x64 .f32) = m ((c : Thread nD τ).loc main_arg0) :=
  (show iblk m c 0 t = V m c main_arg0 by blk_ext! [iblk, idx t]).trans (V_main_arg0 m c)

/-- The weights' block is the weights. -/
theorem blk_2 (c : Dev nD) (t : Fin cfg0.N) : (iblk m c 2 t : FVec Ideal S64x64 .f32) = m ((c : Thread nD τ).loc main_arg2) :=
  (show iblk m c 2 t = V m c main_arg2 by blk_ext! [iblk, idx t]).trans (V_main_arg2 m c)

/-- The bias row that the host lays out holds the bias. -/
theorem bias_row (c : Dev nD) : V m c main_v0 = shapeCast S1x64 (m ((c : Thread nD τ).loc main_arg3) : FVec Ideal S64 .f32) shapeCasts_S64_S1x64 := by
  entry_read; rfl

/-- The bias row's block is the bias row. -/
theorem blk_3 (c : Dev nD) (t : Fin cfg0.N) : (iblk m c 3 t : FVec Ideal S1x64 .f32)
    = shapeCast S1x64 (m ((c : Thread nD τ).loc main_arg3) : FVec Ideal S64 .f32) shapeCasts_S64_S1x64 :=
  (show iblk m c 3 t = V m c main_v0 by blk_ext! [iblk, idx t]).trans (bias_row m c)

/-- The adjacency's block at point `u` is its rows from `512 u`. -/
theorem blk_1 (c : Dev nD) (u : Fin 8) (r : Fin 512) (k : Fin 4096) :
    (iblk m c 1 (pointOf u) : FVec Ideal S512x4096 .f32) (ix2 r k)
      = (m ((c : Thread nD τ).loc main_arg1) : FVec Ideal S4096x4096 .f32) (ix2 (⟨512 * u.val + r.val, by omega⟩ : Fin 4096) k) := by
  rw [← V_main_arg1 m c]
  blk_ext [iblk, idx (pointOf u)]
  show u.val * 512 + r.val = 512 * u.val + r.val
  omega

/-- The stored product at row `k`, column `j`. -/
theorem prodOf_apply (c : Dev nD) (k : Fin 4096) (j : Fin 64) :
    (prodOf m c : FVec Ideal S4096x64 .f32) (ix2 k j)
      = featWeight (m ((c : Thread nD τ).loc main_arg0)) (m ((c : Thread nD τ).loc main_arg2)) k j := by
  unfold prodOf k0_pay1
  rw [shapeCast_self, blk_0 m c, blk_2 m c]
  exact (congrFun (matmul_zero_eq_dotGeneral _ _ _ _) _).trans (StackMember.dotGeneral_plain_apply none _ _ k j)

/-- Block `u` at row `r`, column `j`. -/
theorem blockOf_apply (c : Dev nD) (u : Fin 8) (r : Fin 512) (j : Fin 64) :
    (blockOf m c u : FVec Ideal S1x512x64 .f32) (ix3 (0 : Fin 1) r j)
      = layer (m ((c : Thread nD τ).loc main_arg0)) (m ((c : Thread nD τ).loc main_arg1)) (m ((c : Thread nD τ).loc main_arg2))
          (m ((c : Thread nD τ).loc main_arg3)) (⟨512 * u.val + r.val, by omega⟩ : Fin 4096) j := by
  unfold blockOf k0_pay2 layer
  refine (shapeCast_ab_1ab_apply _ _ _ r j).trans ?_
  refine congr (congrArg HAdd.hAdd ?_) ?_
  · refine ((congrFun (matmul_zero_eq_dotGeneral _ _ _ _) _).trans (StackMember.dotGeneral_plain_apply none _ _ r j)).trans ?_
    exact Finset.sum_congr rfl fun k _ => by rw [blk_1 m c u r k, prodOf_apply m c k j]
  · rw [blk_3 m c, shapeCast_self]
    exact (broadcastTo_1b_ab_apply _ _ r j).trans (shapeCast_a_1a_apply _ _ _ j)

/-- The kernel's result at row `r`, column `j`. -/
theorem resOf_apply (c : Dev nD) (r : Fin 4096) (j : Fin 64) :
    (resOf m c : FVec Ideal S4096x64 .f32) (ix2 r j)
      = layer (m ((c : Thread nD τ).loc main_arg0)) (m ((c : Thread nD τ).loc main_arg1)) (m ((c : Thread nD τ).loc main_arg2))
          (m ((c : Thread nD τ).loc main_arg3)) r j := by
  refine (blockOf_apply m c ⟨r.val / 512, by omega⟩ ⟨r.val % 512, by omega⟩ j).trans ?_
  have e : (⟨512 * (r.val / 512) + r.val % 512, by omega⟩ : Fin 4096) = r := Fin.ext (by show 512 * (r.val / 512) + r.val % 512 = r.val; omega)
  exact congrArg (fun r' => layer _ _ _ _ r' j) e

end Cert.KernelIdeal.Hand

namespace Cert.ReferenceIdeal.Hand

open Cert.ReferenceIdeal Cert.ReferenceIdeal.Gen

/-- What the reference computes of its arguments. -/
def refOf (x : FVec Ideal S4096x64 .f32) (adj : FVec Ideal S4096x4096 .f32) (w : FVec Ideal S64x64 .f32) (b : FVec Ideal S64 .f32) :
    FVec Ideal S4096x64 .f32 :=
  addf (Host.dotGeneral dot_S4096x4096_S4096x64_S4096x64_1_0_0_1_n_n none adj (Host.dotGeneral dot_S4096x64_S64x64_S4096x64_1_0_0_1_n_n none x w))
    (broadcastInDim S4096x64 ![0, 1] bcast_S1x64_S4096x64_0_1 (broadcastInDim S1x64 ![1] bcast_S64_S1x64_1 b))

/-- The reference's result at row `r`, column `j` is the layer. -/
theorem refOf_apply (x : FVec Ideal S4096x64 .f32) (adj : FVec Ideal S4096x4096 .f32) (w : FVec Ideal S64x64 .f32) (b : FVec Ideal S64 .f32)
    (r : Fin 4096) (j : Fin 64) : refOf x adj w b (ix2 r j) = Cert.KernelIdeal.Hand.layer x adj w b r j := by
  unfold refOf Cert.KernelIdeal.Hand.layer
  refine congr (congrArg HAdd.hAdd ?_) ?_
  · refine (StackMember.dotGeneral_plain_apply none _ _ r j).trans ?_
    exact Finset.sum_congr rfl fun k _ => congrArg (adj (ix2 r k) * ·) (StackMember.dotGeneral_plain_apply none _ _ k j)
  · refine (broadcastInDim_oneRow_apply _ _ r j).trans ?_
    exact broadcastInDim_apply _ _ b (ix2 (0 : Fin 1) j) (ix1 j) fun a => by
      match a with
      | ⟨0, _⟩ => rfl

/-- The kernel's result is the reference's, of the same arguments. -/
theorem resOf_eq_refOf (m : (ℓ : Loc Cert.KernelIdeal.nD Cert.KernelIdeal.τ Cert.KernelIdeal.sig) → Buf (Elt Ideal) ℓ) (c : Dev Cert.KernelIdeal.nD) :
    (Cert.KernelIdeal.Hand.resOf m c : FVec Ideal S4096x64 .f32)
      = refOf (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  funext i
  rw [eq_ix2 i]
  exact (Cert.KernelIdeal.Hand.resOf_apply m c (i 0) (i 1)).trans (refOf_apply _ _ _ _ (i 0) (i 1)).symm

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.AsPrinted
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged; it has no semaphore, so no counter can be off zero. -/
theorem reference_frame (m : (ℓ : Loc Cert.ReferenceIdeal.nD Cert.ReferenceIdeal.τ Cert.ReferenceIdeal.sig) → Buf (Elt Ideal) ℓ)
    (g : Dev Cert.ReferenceIdeal.nD → PrngReg) (hpre : Pre_ReferenceIdeal m) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems rfl r.2⟩) (Cert.ReferenceIdeal.Value.run m g)

/-- From arguments that agree, the kernel and the reference end with the same result: `refOf` of the arguments. -/
theorem same_value : algebraic_KernelIdeal_ReferenceIdeal (hKernelIdeal := Cert.KernelIdeal.Gen.facts) (hReferenceIdeal := Cert.ReferenceIdeal.Gen.facts) := by
  intro m g m' g' _ hargs
  refine ⟨Cert.KernelIdeal.Hand.resOf m, (θ_run _ _ _).mono (fun r h => h.1) (Cert.KernelIdeal.Hand.run m g),
    (θ_run _ _ _).mono (fun r h c => ⟨(h c).1.trans ?_, (h c).2⟩) (Cert.ReferenceIdeal.Value.run m' g')⟩
  obtain ⟨h0, h1, h2, h3⟩ := hargs c
  rw [h0, h1, h2, h3]
  exact (Cert.ReferenceIdeal.Hand.resOf_eq_refOf m c).symm

/-- Everything the certificate claims. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, reference_frame, trivial, same_value⟩

end Cert.Proof

end
